-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_given [hPre_given : Cert.Pre_given.Facts] (m : (ℓ : Loc Cert.KernelIdeal.nD Cert.KernelIdeal.τ Cert.KernelIdeal.sig) → Buf (Elt Ideal) ℓ) : Prop :=
  ∀ c : Dev Cert.KernelIdeal.nD,
    (Cert.Pre_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_given [hPre_given : Cert.Pre_given.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_given [hKernelIdeal : Cert.KernelIdeal.Facts] [hPre_given : Cert.Pre_given.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_given m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_given [hReferenceIdeal : Cert.ReferenceIdeal.Facts] [hPre_given : Cert.Pre_given.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_given m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_given [hKernelIdeal : Cert.KernelIdeal.Facts] [hReferenceIdeal : Cert.ReferenceIdeal.Facts] [hPre_given : Cert.Pre_given.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_given m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_given : Cert.Pre_given.Facts),
    quiescent_Kernel (hKernel := hKernel)
    ∧ quiescent_KernelIdeal (hKernelIdeal := hKernelIdeal)
    ∧ quiescent_KernelIdeal_pre_given (hKernelIdeal := hKernelIdeal) (hPre_given := hPre_given)
    ∧ quiescent_ReferenceIdeal (hReferenceIdeal := hReferenceIdeal)
    ∧ quiescent_ReferenceIdeal_pre_given (hReferenceIdeal := hReferenceIdeal) (hPre_given := hPre_given)
    ∧ preserves_Kernel_KernelIdeal
    ∧ algebraic_KernelIdeal_ReferenceIdeal_pre_given (hKernelIdeal := hKernelIdeal) (hReferenceIdeal := hReferenceIdeal) (hPre_given := hPre_given)
-- ==== Pre_given.lean ====
abbrev S4x16384x3 : Shape := ⟨3, ![4, 16384, 3]⟩
abbrev S4x1024x3 : Shape := ⟨3, ![4, 1024, 3]⟩
abbrev S4x16384x128 : Shape := ⟨3, ![4, 16384, 128]⟩
abbrev S4x16384 : Shape := ⟨2, ![4, 16384]⟩
abbrev S_ : Shape := ⟨0, ![]⟩

class Facts : Prop where
  bcast_S_S4x16384x3 : S_.BroadcastsInDim S4x16384x3 (![] : Fin 0 → Fin S4x16384x3.rank)
  bcast_S_S4x1024x3 : S_.BroadcastsInDim S4x1024x3 (![] : Fin 0 → Fin S4x1024x3.rank)

variable [Facts]

def fn {F : FTy → Type} [FloatOps F] (main_arg0 : FVec F S4x16384x3 .f32) (main_arg1 : FVec F S4x1024x3 .f32) (main_arg2 : FVec F S4x16384x128 .f32) (main_arg3 : IVec S4x16384 1) : IVec S4x16384 1 × IVec S4x16384x3 1 × IVec S4x1024x3 1 :=
  let main_v0 : FVec F S4x16384x3 .f32 := Host.absf main_arg0
  let main_cst : FVec F S_ .f32 := constant S_ .f32 0x7F800000#32
  let main_v1 : FVec F S4x16384x3 .f32 := broadcastInDim S4x16384x3 ![] bcast_S_S4x16384x3 main_cst
  let main_v2 : IVec S4x16384x3 1 := cmpf .olt main_v0 main_v1
  let main_v3 : FVec F S4x1024x3 .f32 := Host.absf main_arg1
  let main_cst_0 : FVec F S_ .f32 := constant S_ .f32 0x7F800000#32
  let main_v4 : FVec F S4x1024x3 .f32 := broadcastInDim S4x1024x3 ![] bcast_S_S4x1024x3 main_cst_0
  let main_v5 : IVec S4x1024x3 1 := cmpf .olt main_v3 main_v4
  (main_arg3, main_v2, main_v5)
-- ==== Kernel.lean ====
abbrev S4x16384x3 : Shape := ⟨3, ![4, 16384, 3]⟩
abbrev S4x1024x3 : Shape := ⟨3, ![4, 1024, 3]⟩
abbrev S4x16384x128 : Shape := ⟨3, ![4, 16384, 128]⟩
abbrev S4x16384 : Shape := ⟨2, ![4, 16384]⟩
abbrev S4x3x16384 : Shape := ⟨3, ![4, 3, 16384]⟩
abbrev S4x1024x128 : Shape := ⟨3, ![4, 1024, 128]⟩
abbrev S1x3x16384 : Shape := ⟨3, ![1, 3, 16384]⟩
abbrev S1x256x3 : Shape := ⟨3, ![1, 256, 3]⟩
abbrev S1x16384x128 : Shape := ⟨3, ![1, 16384, 128]⟩
abbrev S1x256x128 : Shape := ⟨3, ![1, 256, 128]⟩
abbrev S3x16384 : Shape := ⟨2, ![3, 16384]⟩
abbrev S256x3 : Shape := ⟨2, ![256, 3]⟩
abbrev S16384x128 : Shape := ⟨2, ![16384, 128]⟩
abbrev S16384 : Shape := ⟨1, ![16384]⟩
abbrev S1x16384 : Shape := ⟨2, ![1, 16384]⟩
abbrev S256 : Shape := ⟨1, ![256]⟩
abbrev S256x1 : Shape := ⟨2, ![256, 1]⟩
abbrev S256x16384 : Shape := ⟨2, ![256, 16384]⟩
abbrev S256x128 : Shape := ⟨2, ![256, 128]⟩

abbrev nBuf : Space → Nat
  | .hbm => 6
  | .vmem => 8
  | .smem => 0
  | _ => 0

abbrev bufTy : (tb : Table) → Fin (tcTables nBuf tb) → BufTy
  | .hbm, ⟨0, _⟩ => ⟨S4x16384x3, .f32⟩
  | .hbm, ⟨1, _⟩ => ⟨S4x1024x3, .f32⟩
  | .hbm, ⟨2, _⟩ => ⟨S4x16384x128, .f32⟩
  | .hbm, ⟨3, _⟩ => ⟨S4x16384, .i1⟩
  | .hbm, ⟨4, _⟩ => ⟨S4x3x16384, .f32⟩
  | .hbm, ⟨5, _⟩ => ⟨S4x1024x128, .f32⟩
  | .local _ .vmem, ⟨0, _⟩ => ⟨S1x3x16384, .f32⟩
  | .local _ .vmem, ⟨1, _⟩ => ⟨S1x3x16384, .f32⟩
  | .local _ .vmem, ⟨2, _⟩ => ⟨S1x256x3, .f32⟩
  | .local _ .vmem, ⟨3, _⟩ => ⟨S1x256x3, .f32⟩
  | .local _ .vmem, ⟨4, _⟩ => ⟨S1x16384x128, .f32⟩
  | .local _ .vmem, ⟨5, _⟩ => ⟨S1x16384x128, .f32⟩
  | .local _ .vmem, ⟨6, _⟩ => ⟨S1x256x128, .f32⟩
  | .local _ .vmem, ⟨7, _⟩ => ⟨S1x256x128, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c64_i32 : BitVec 32 := 64#32
  let v22 : BitVec 32 := Scalar.addi c0_i32 c64_i32
  let c1_i32 : BitVec 32 := 1#32
  ⟨c0_i32, v22, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "big" => some ⊤
  | _ => none
-- ==== ReferenceIdeal.lean ====
abbrev S4x16384x3 : Shape := ⟨3, ![4, 16384, 3]⟩
abbrev S4x1024x3 : Shape := ⟨3, ![4, 1024, 3]⟩
abbrev S4x16384x128 : Shape := ⟨3, ![4, 16384, 128]⟩
abbrev S4x16384 : Shape := ⟨2, ![4, 16384]⟩
abbrev S_ : Shape := ⟨0, ![]⟩
abbrev S4x16384x1 : Shape := ⟨3, ![4, 16384, 1]⟩
abbrev S4x1024 : Shape := ⟨2, ![4, 1024]⟩
abbrev S4x1x1024 : Shape := ⟨3, ![4, 1, 1024]⟩
abbrev S4x16384x1024 : Shape := ⟨3, ![4, 16384, 1024]⟩
abbrev S4x1024x16384 : Shape := ⟨3, ![4, 1024, 16384]⟩
abbrev S4x1024x64 : Shape := ⟨3, ![4, 1024, 64]⟩
abbrev S4x1024x64x1 : Shape := ⟨4, ![4, 1024, 64, 1]⟩
abbrev S4x1024x64x128 : Shape := ⟨4, ![4, 1024, 64, 128]⟩
abbrev S4x1024x128 : Shape := ⟨3, ![4, 1024, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x1024x3, .f32⟩
  | .hbm, ⟨2, _⟩ => ⟨S4x16384x128, .f32⟩
  | .hbm, ⟨3, _⟩ => ⟨S4x16384, .i1⟩
  | .hbm, ⟨4, _⟩ => ⟨S4x16384x3, .f32⟩
  | .hbm, ⟨5, _⟩ => ⟨S_, .f32⟩
  | .hbm, ⟨6, _⟩ => ⟨S4x16384, .f32⟩
  | .hbm, ⟨7, _⟩ => ⟨S4x16384x1, .f32⟩
  | .hbm, ⟨8, _⟩ => ⟨S4x1024x3, .f32⟩
  | .hbm, ⟨9, _⟩ => ⟨S_, .f32⟩
  | .hbm, ⟨10, _⟩ => ⟨S4x1024, .f32⟩
  | .hbm, ⟨11, _⟩ => ⟨S4x1x1024, .f32⟩
  | .hbm, ⟨12, _⟩ => ⟨S4x16384x1024, .f32⟩
  | .hbm, ⟨13, _⟩ => ⟨S4x16384x1024, .f32⟩
  | .hbm, ⟨14, _⟩ => ⟨S4x16384x1024, .f32⟩
  | .hbm, ⟨15, _⟩ => ⟨S4x16384x1024, .f32⟩
  | .hbm, ⟨16, _⟩ => ⟨S_, .f32⟩
  | .hbm, ⟨17, _⟩ => ⟨S4x16384x1024, .f32⟩
  | .hbm, ⟨18, _⟩ => ⟨S4x16384x1024, .f32⟩
  | .hbm, ⟨19, _⟩ => ⟨S4x16384x1024, .f32⟩
  | .hbm, ⟨20, _⟩ => ⟨S4x16384x1, .i1⟩
  | .hbm, ⟨21, _⟩ => ⟨S_, .f32⟩
  | .hbm, ⟨22, _⟩ => ⟨S_, .f32⟩
  | .hbm, ⟨23, _⟩ => ⟨S4x16384x1024, .i1⟩
  | .hbm, ⟨24, _⟩ => ⟨S4x16384x1024, .f32⟩
  | .hbm, ⟨25, _⟩ => ⟨S4x16384x1024, .f32⟩
  | .hbm, ⟨26, _⟩ => ⟨S4x1024x16384, .f32⟩
  | .hbm, ⟨27, _⟩ => ⟨S4x1024x16384, .f32⟩
  | .hbm, ⟨28, _⟩ => ⟨S4x1024x64, .f32⟩
  | .hbm, ⟨29, _⟩ => ⟨S4x1024x64, .i32⟩
  | .hbm, ⟨30, _⟩ => ⟨S_, .i32⟩
  | .hbm, ⟨31, _⟩ => ⟨S4x1024x64, .i32⟩
  | .hbm, ⟨32, _⟩ => ⟨S4x1024x64, .i1⟩
  | .hbm, ⟨33, _⟩ => ⟨S_, .i32⟩
  | .hbm, ⟨34, _⟩ => ⟨S4x1024x64, .i32⟩
  | .hbm, ⟨35, _⟩ => ⟨S4x1024x64, .i32⟩
  | .hbm, ⟨36, _⟩ => ⟨S4x1024x64, .i32⟩
  | .hbm, ⟨37, _⟩ => ⟨S4x1024x64x1, .i32⟩
  | .hbm, ⟨38, _⟩ => ⟨S4x1024x64x128, .f32⟩
  | .hbm, ⟨39, _⟩ => ⟨S_, .f32⟩
  | .hbm, ⟨40, _⟩ => ⟨S4x1024x128, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_values : Ref sig .tc := ⟨.hbm, 28, rfl⟩
abbrev main_indices : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Proof.Nearest.lean ====
/- Taking the nearest points one at a time.

   A row of distances `d` over `n` points is worked through in rounds. Each round takes the point of least distance, of
   those the one of least position, and overwrites its distance with `⊤`. When every distance is below `⊤`, the points taken
   in the first `k ≤ n` rounds are the first `k` positions of the stable sort by distance. -/
module

public import Idealize.ShloMosaic.Lib.SortPrefix
public import Mathlib.Data.EReal.Basic

@[expose] public section

noncomputable section

namespace Cert.Nearest

open Idealize.ShloMosaic

variable {n : Nat} [NeZero n]

/-- `p` is the point a round takes from the row `e`: the least position among those of least value. -/
def IsPick (e : Fin n → EReal) (p : Fin n) : Prop :=
  (∀ i, e p ≤ e i) ∧ ∀ i, e i ≤ e p → p ≤ i

/-- Every nonempty row has such a point. -/
theorem exists_isPick (e : Fin n → EReal) : ∃ p, IsPick e p := by
  classical
  obtain ⟨q, -, hq⟩ := Finset.exists_min_image Finset.univ e ⟨0, Finset.mem_univ _⟩
  have hne : (Finset.univ.filter fun i => e i ≤ e q).Nonempty := ⟨q, by simp⟩
  obtain ⟨p, hp, hmin⟩ := Finset.exists_min_image _ id hne
  have hpq : e p ≤ e q := by simpa using hp
  refine ⟨p, fun i => hpq.trans (hq i (Finset.mem_univ _)), fun i hi => ?_⟩
  exact hmin i (by simpa using hi.trans hpq)

/-- The point a round takes. -/
def pick (e : Fin n → EReal) : Fin n := (exists_isPick e).choose

/-- The point a round takes is the least position among those of least value. -/
theorem pick_spec (e : Fin n → EReal) : IsPick e (pick e) := (exists_isPick e).choose_spec

/-- No other point has that property. -/
theorem eq_pick {e : Fin n → EReal} {p : Fin n} (h : IsPick e p) : p = pick e :=
  le_antisymm (h.2 _ ((pick_spec e).1 _)) ((pick_spec e).2 _ (h.1 _))

/-- The row after a round: the taken point's distance is `⊤`. -/
def strike (e : Fin n → EReal) : Fin n → EReal := fun i => if i = pick e then ⊤ else e i

/-- The row after `t` rounds. -/
def after (d : Fin n → EReal) : Nat → Fin n → EReal
  | 0 => d
  | t + 1 => strike (after d t)

/-- The point round `t` takes, counting from 0. -/
def taken (d : Fin n → EReal) (t : Nat) : Fin n := pick (after d t)

/-- After `t` rounds the points taken hold `⊤` and the others their distances. -/
theorem after_apply (d : Fin n → EReal) (t : Nat) (i : Fin n) :
    ((∃ s, s < t ∧ taken d s = i) → after d t i = ⊤) ∧ ((∀ s, s < t → taken d s ≠ i) → after d t i = d i) := by
  induction t with
  | zero => exact ⟨fun ⟨s, hs, _⟩ => absurd hs (Nat.not_lt_zero s), fun _ => rfl⟩
  | succ t ih =>
    show (_ → strike (after d t) i = ⊤) ∧ (_ → strike (after d t) i = d i)
    unfold strike
    by_cases h : i = pick (after d t)
    · rw [if_pos h]
      exact ⟨fun _ => rfl, fun hn => absurd h.symm (hn t (Nat.lt_succ_self t))⟩
    · rw [if_neg h]
      refine ⟨fun ⟨s, hs, he⟩ => ih.1 ⟨s, ?_, he⟩, fun hn => ih.2 fun s hs => hn s (Nat.lt_succ_of_lt hs)⟩
      rcases Nat.lt_succ_iff_lt_or_eq.mp hs with hs | rfl
      · exact hs
      · exact absurd he.symm h

/-- While fewer rounds than points have run, some point is not yet taken. -/
theorem exists_untaken (d : Fin n → EReal) {t : Nat} (ht : t < n) : ∃ i, ∀ s, s < t → taken d s ≠ i := by
  classical
  by_contra hcon
  push Not at hcon
  have hsub : (Finset.univ : Finset (Fin n)) ⊆ (Finset.range t).image (taken d) := fun i _ => by
    obtain ⟨s, hs, he⟩ := hcon i
    exact Finset.mem_image.mpr ⟨s, Finset.mem_range.mpr hs, he⟩
  have := (Finset.card_le_card hsub).trans Finset.card_image_le
  rw [Finset.card_univ, Fintype.card_fin, Finset.card_range] at this
  omega

variable {d : Fin n → EReal} (hd : ∀ i, d i < ⊤)
include hd

/-- A round takes a point not taken before. -/
theorem taken_ne {t : Nat} (ht : t < n) (s : Nat) (hs : s < t) : taken d s ≠ taken d t := by
  intro he
  obtain ⟨i, hi⟩ := exists_untaken d ht
  have h1 : after d t (taken d t) = ⊤ := (after_apply d t _).1 ⟨s, hs, he⟩
  have h2 : after d t (taken d t) ≤ after d t i := (pick_spec (after d t)).1 i
  rw [h1, (after_apply d t i).2 hi] at h2
  exact absurd (hd i) (not_lt.mpr h2)

/-- A point not taken by round `t` is no nearer than the point round `t` takes; at the same distance it is at a later
    position. -/
theorem taken_before {t : Nat} (ht : t < n) (i : Fin n) (hi : ∀ s, s < t → taken d s ≠ i) :
    d (taken d t) ≤ d i ∧ (d i ≤ d (taken d t) → taken d t ≤ i) := by
  have hp : after d t (taken d t) = d (taken d t) := (after_apply d t _).2 fun s hs => taken_ne hd ht s hs
  have hq : after d t i = d i := (after_apply d t i).2 hi
  have hs := pick_spec (after d t)
  refine ⟨?_, fun h => ?_⟩
  · have := hs.1 i
    rw [hq] at this
    exact hp ▸ this
  · exact hs.2 i (by rw [hq]; exact h.trans hp.symm.le)

/-- The first `k` positions of the sort by distance, then by position, are the points the first `k` rounds take. -/
theorem sortedFrom_key_eq_taken {k : Nat} (hk : k ≤ n) (i : Fin k) :
    sortedFrom (fun a b : Fin n => decide (d a < d b) || (decide (d a = d b) && decide (a < b))) (i.castLE hk)
      = taken d i := by
  have hB := StrictTotalBefore.of_key_then_position (fun a b : EReal => decide (a < b)) d
    (fun a => decide_eq_false (lt_irrefl a))
    (fun a b c hab hbc => decide_eq_true ((of_decide_eq_true hab).trans (of_decide_eq_true hbc)))
    (fun a b => by
      rcases lt_trichotomy a b with h | h | h
      · exact Or.inl (decide_eq_true h)
      · exact Or.inr (Or.inl h)
      · exact Or.inr (Or.inr (decide_eq_true h)))
  have hlate : ∀ (t : Nat), t < n → ∀ p : Fin n, (∀ s, s < t → taken d s ≠ p) →
      (decide (d p < d (taken d t)) || (decide (d p = d (taken d t)) && decide (p < taken d t))) = false := by
    intro t ht p hp
    obtain ⟨h1, h2⟩ := taken_before hd ht p hp
    rw [Bool.or_eq_false_iff, Bool.and_eq_false_iff]
    refine ⟨decide_eq_false (not_lt.mpr h1), ?_⟩
    by_cases he : d p = d (taken d t)
    · exact Or.inr (decide_eq_false (not_lt.mpr (h2 he.le)))
    · exact Or.inl (decide_eq_false he)
  have hne : ∀ a b : Fin k, a < b → taken d a ≠ taken d b := fun a b hab =>
    taken_ne hd (lt_of_lt_of_le b.isLt hk) a hab
  refine hB.sortedFrom_eq_of_prefix hk (fun i : Fin k => taken d i) ?_ ?_ ?_ i
  · intro a b hab
    rcases lt_trichotomy a b with h | h | h
    · exact absurd hab (hne a b h)
    · exact h
    · exact absurd hab.symm (hne b a h)
  · intro a b hab
    exact hlate a (lt_of_lt_of_le a.isLt hk) _ fun s hs => by
      have := hne ⟨s, hs.trans a.isLt⟩ b (lt_trans (show (⟨s, hs.trans a.isLt⟩ : Fin k) < a from hs) hab)
      exact this
  · intro a p hp
    exact hlate a (lt_of_lt_of_le a.isLt hk) p fun s hs => hp ⟨s, hs.trans a.isLt⟩

omit [NeZero n] hd in
/-- On positions in increasing order a stable sort by distance alone breaks its ties by position. -/
theorem stableSort_by_distance (l : List (Fin n)) (hl : l.Pairwise (· < ·)) :
    stableSort (fun a b : Fin n => decide (d a < d b)) l
      = stableSort (fun a b : Fin n => decide (d a < d b) || (decide (d a = d b) && decide (a < b))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    rw [decide_eq_false (not_lt.mpr hab.le), Bool.and_false, Bool.or_false]

/-- The first `k` positions of the stable sort by distance are the points the first `k` rounds take. -/
theorem sortedFrom_eq_taken {k : Nat} (hk : k ≤ n) (i : Fin k) :
    sortedFrom (fun a b : Fin n => decide (d a < d b)) (i.castLE hk) = taken d i := by
  rw [← sortedFrom_key_eq_taken hd hk i]
  have e : sortPositions n (fun a b : Fin n => decide (d a < d b))
      = sortPositions n (fun a b : Fin n => decide (d a < d b) || (decide (d a = d b) && decide (a < b))) :=
    stableSort_by_distance (List.finRange n) (List.pairwise_lt_finRange n)
  unfold sortedFrom
  rw [List.get_of_eq e]
  rfl

end Cert.Nearest

end
-- ==== Proof.Distance.lean ====
/- The squared distance of a point and a patch centre, as both programs write it, and when it is below `⊤`. -/
module

public import Idealize.ShloMosaic.PureOps.Ideal

@[expose] public section

noncomputable section

namespace Cert.Distance

open Idealize.ShloMosaic

/-- `|p|² + |x|² - 2 (p · x)` of a patch centre `p` and a point `x`; the two is the literal the programs spell. -/
def sqDist (x p : Fin 3 → EReal) : EReal :=
  ∑ k, p k * p k + ∑ k, x k * x k - Ideal.ofBits .f32 0x40000000#32 * ∑ k, p k * x k

/-- The same with the roles of the two exchanged in each term. -/
theorem sqDist_comm (x p : Fin 3 → EReal) :
    ∑ k, x k * x k + ∑ k, p k * p k - Ideal.ofBits .f32 0x40000000#32 * ∑ k, x k * p k = sqDist x p := by
  unfold sqDist
  rw [add_comm]
  simp only [mul_comm (x _) (p _)]

/-- A number whose absolute value is below `⊤` is real. -/
theorem exists_real {a : EReal} (h : max a (-a) < ⊤) : ∃ r : ℝ, a = r := by
  induction a with
  | bot => simp at h
  | coe r => exact ⟨r, rfl⟩
  | top => simp at h

/-- The distance of a point and a centre of real coordinates is below `⊤`. -/
theorem sqDist_lt_top {x p : Fin 3 → EReal} (hx : ∀ k, max (x k) (-x k) < ⊤) (hp : ∀ k, max (p k) (-p k) < ⊤) :
    sqDist x p < ⊤ := by
  choose x' hx' using fun k => exists_real (hx k)
  choose p' hp' using fun k => exists_real (hp k)
  have h2 : Ideal.ofBits .f32 0x40000000#32 = ((2 : ℝ) : EReal) := by
    simp [Ideal.ofBits, Ideal.ieee, -EReal.coe_mul]
    norm_num
  unfold sqDist
  simp only [Fin.sum_univ_three, hx', hp', h2]
  norm_cast
  exact EReal.coe_lt_top _

end Cert.Distance

end
-- ==== Proof.Answer.lean ====
/- The problem's answer over the extended reals: at each centre, feature by feature, the greatest among the 64 points nearest
   to the centre, of equally near points the earlier ones. -/
module

public import proofs.«01_k».proof.Proof.Nearest
public import proofs.«01_k».proof.Proof.Distance
public import Idealize.ShloMosaic.Lib.Pointwise

@[expose] public section

noncomputable section

namespace Cert.Answer

open Idealize.ShloMosaic Cert.Nearest Cert.Distance

/-- The greatest of the first `t` values of a sequence, `⊥` if there is none. -/
def greatest (g : Nat → EReal) : Nat → EReal
  | 0 => ⊥
  | t + 1 => max (greatest g t) (g t)

/-- The greatest is at most `a` when each of the values is. -/
theorem greatest_le_iff (g : Nat → EReal) (a : EReal) (t : Nat) : greatest g t ≤ a ↔ ∀ k, k < t → g k ≤ a := by
  induction t with
  | zero => exact ⟨fun _ k hk => absurd hk (Nat.not_lt_zero k), fun _ => bot_le⟩
  | succ t ih =>
    show max (greatest g t) (g t) ≤ a ↔ _
    rw [max_le_iff, ih]
    refine ⟨fun ⟨h1, h2⟩ k hk => ?_, fun h => ⟨fun k hk => h k (Nat.lt_succ_of_lt hk), h t (Nat.lt_succ_self t)⟩⟩
    rcases Nat.lt_succ_iff_lt_or_eq.mp hk with hk | rfl
    · exact h1 k hk
    · exact h2

/-- The greatest as a maximum over the positions below `t`. -/
theorem greatest_eq_fold (g : Nat → EReal) (t : Nat) :
    greatest g t = Finset.fold max ⊥ (fun k : Fin t => g k.val) Finset.univ := by
  refine eq_of_forall_ge_iff fun a => ?_
  rw [greatest_le_iff, Finset.fold_max_le]
  exact ⟨fun h => ⟨bot_le, fun k _ => h k.val k.isLt⟩, fun h k hk => h.2 ⟨k, hk⟩ (Finset.mem_univ _)⟩

/-- The shape of the points' coordinates. -/
abbrev Points : Shape := ⟨3, ![4, 16384, 3]⟩

/-- The shape of the centres' coordinates. -/
abbrev Centres : Shape := ⟨3, ![4, 1024, 3]⟩

/-- The shape of the points' features. -/
abbrev Features : Shape := ⟨3, ![4, 16384, 128]⟩

/-- The shape of the result. -/
abbrev Out : Shape := ⟨3, ![4, 1024, 128]⟩

/-- The squared distances from centre `r` of cloud `b` to the cloud's points. -/
def dists (x : Vec Ideal Points .f32) (p : Vec Ideal Centres .f32) (b : Fin 4) (r : Fin 1024) : Fin 16384 → EReal :=
  fun q => sqDist (fun a => x (ix3 b q a)) (fun a => p (ix3 b r a))

/-- The result: at centre `r` of cloud `b`, feature `j`, the greatest among the 64 points nearest to the centre. -/
def result (x : Vec Ideal Points .f32) (p : Vec Ideal Centres .f32) (v : Vec Ideal Features .f32)
    (b : Fin 4) (r : Fin 1024) (j : Fin 128) : EReal :=
  greatest (fun k => v (ix3 b (taken (dists x p b r) k) j)) 64

/-- The result as an array. -/
def G (x : Vec Ideal Points .f32) (p : Vec Ideal Centres .f32) (v : Vec Ideal Features .f32) :
    Vec Ideal Out .f32 :=
  fun i => result x p v (i 0) (i 1) (i 2)

end Cert.Answer

end
-- ==== Proof.Given.lean ====
/- What the precondition says: the mask selects every point, and every coordinate is finite. -/
module

public import proofs.«01_k».proof.Defs
public import proofs.«01_k».proof.Proof.Answer
public import Idealize.ShloMosaic.Lib.Pipeline.ValueKit
public import Idealize.ShloMosaic.Lib.Claim

@[expose] public section

noncomputable section

namespace Cert.Given

open Idealize.ShloMosaic Cert.Pre_given Cert.Distance Cert.Answer

set_option maxRecDepth 16384

/-- The shape conditions of the precondition's operations. -/
theorem facts : Cert.Pre_given.Facts := ⟨by decide, by decide⟩

/-- A comparison that answers "less than infinity" says the magnitude is finite. -/
theorem lt_top_of_test {a : EReal} (h : BitVec.ofBool (decide (a < Ideal.ofBits .f32 0x7F800000#32)) = 1#1) : a < ⊤ := by
  rw [show Ideal.ofBits .f32 0x7F800000#32 = ⊤ from by simp [Ideal.ofBits, Ideal.ieee]] at h
  by_contra hn
  rw [decide_eq_false hn] at h
  exact absurd h (by decide)

/-- Where the precondition holds, every distance is less than infinity. -/
theorem dists_lt_top [Cert.Pre_given.Facts] (x : Vec Ideal Points .f32) (p : Vec Ideal Centres .f32) (v : Vec Ideal Features .f32) (w : IVec S4x16384 1)
    (hx : (fn (F := Ideal) x p v w).2.1 = fun _ => 1#1) (hp : (fn (F := Ideal) x p v w).2.2 = fun _ => 1#1)
    (b : Fin 4) (r : Fin 1024) (q : Fin 16384) : dists x p b r q < ⊤ :=
  sqDist_lt_top (fun a => lt_top_of_test (congrFun hx (ix3 b q a))) (fun a => lt_top_of_test (congrFun hp (ix3 b r a)))

end Cert.Given

end
-- ==== Proof.Words.lean ====
/- Positions among 16384 points as 32-bit words. -/
module

public import Idealize.ShloMosaic.PureOps

@[expose] public section

namespace Cert.Words

/-- A position's word is that position as an integer. -/
theorem toInt_word (i : Fin 16384) : (BitVec.ofNat 32 i.val).toInt = (i.val : ℤ) := by
  have := i.isLt
  rw [BitVec.toInt_eq_toNat_cond, BitVec.toNat_ofNat]
  omega

/-- Two positions' words are equal only if the positions are. -/
theorem word_inj {i j : Fin 16384} (h : BitVec.ofNat 32 i.val = BitVec.ofNat 32 j.val) : i = j := by
  have := congrArg BitVec.toInt h
  rw [toInt_word, toInt_word] at this
  exact Fin.ext (by exact_mod_cast this)

end Cert.Words
-- ==== Proof.Round.lean ====
/- One round of the kernel's loop, over the extended reals.

   The block's row of distances and its running maximum are read at an index: the mask of a round marks the point
   `Nearest.pick` of the row, the row is struck there, and the running maximum meets that point's feature. -/
module

public import proofs.«01_k».proof.Proof.Gen.KernelIdeal.Value
public import proofs.«01_k».proof.Proof.Nearest
public import proofs.«01_k».proof.Proof.Distance
public import proofs.«01_k».proof.Proof.Words
public import Idealize.ShloMosaic.Lib.Pointwise
public import Idealize.ShloMosaic.Lib.SortNet.Extract

@[expose] public section

noncomputable section

namespace Cert.Round

open Idealize.ShloMosaic Cert.KernelIdeal Cert.KernelIdeal.Gen Cert.Nearest Cert.Distance Cert.Words

set_option maxRecDepth 16384

/-- The infinity the minimum starts from. -/
theorem inf_word : Ideal.ofBits .f32 0x7F800000#32 = ⊤ := by simp [Ideal.ofBits, Ideal.ieee]

/-- An element at most the row's minimum is an element at most every other. -/
theorem le_fold_iff (e : Fin 16384 → EReal) (i : Fin 16384) :
    e i ≤ Finset.fold min (Ideal.ofBits .f32 0x7F800000#32) e Finset.univ ↔ ∀ j, e i ≤ e j := by
  rw [Finset.le_fold_min, inf_word]
  simp

/-- The least word among the positions of least value is the word of the point taken. -/
theorem fold_word (e : Fin 16384 → EReal) :
    Finset.fold IntOp.minsi (2147483647#32)
        (fun j => if e j ≤ Finset.fold min (Ideal.ofBits .f32 0x7F800000#32) e Finset.univ then BitVec.ofNat 32 j.val
          else 16384#32) Finset.univ
      = BitVec.ofNat 32 (pick e).val := by
  apply BitVec.eq_of_toInt_eq
  rw [← Finset.fold_hom (op' := min) (m := BitVec.toInt) fun a b => SortNet.toInt_minsi a b, toInt_word]
  have hp := pick_spec e
  have hlt := (pick e).isLt
  apply le_antisymm
  · rw [Finset.fold_min_le]
    refine Or.inr ⟨pick e, Finset.mem_univ _, ?_⟩
    rw [if_pos ((le_fold_iff e _).mpr hp.1), toInt_word]
  · rw [Finset.le_fold_min]
    refine ⟨?_, fun j _ => ?_⟩
    · rw [show (2147483647#32).toInt = 2147483647 from rfl]; omega
    · split
      · rename_i h
        rw [toInt_word]
        exact_mod_cast hp.2 j ((le_fold_iff e j).mp h _)
      · rw [show (16384#32).toInt = 16384 from rfl]; omega

/-- A block's row of distances. -/
def row (e : FVec Ideal S256x16384 .f32) (r : Fin 256) : Fin 16384 → EReal := fun i => e (ix2 r i)

/-- A round's mask marks the point it takes. -/
theorem mask_apply (e : FVec Ideal S256x16384 .f32) (r : Fin 256) (i : Fin 16384) :
    k0_pay3 (F := Ideal) e (ix2 r i) = BitVec.ofBool (decide (i = pick (row e r))) := by
  pointwise [k0_pay3]
  rw [fold_word (fun x => e (ix2 r x))]
  show BitVec.ofBool (BitVec.ofNat 32 i.val == BitVec.ofNat 32 (pick (row e r)).val) = _
  congr 1
  rw [Bool.eq_iff_iff, beq_iff_eq, decide_eq_true_iff]
  exact ⟨word_inj, fun h => by rw [h]⟩

/-- The distances a block starts from. -/
theorem dist_apply (x : Vec Ideal S1x3x16384 .f32) (p : Vec Ideal S1x256x3 .f32) (r : Fin 256) (i : Fin 16384) :
    k0_pay1 (F := Ideal) x p (ix2 r i) = sqDist (fun k => x (ix3 0 k i)) (fun k => p (ix3 0 r k)) := by
  pointwise [k0_pay1]
  rfl

/-- The mark put on a taken point. -/
theorem big_eq (b : BitVec 32) : Named.named (F := Ideal) κ "big" (φ := .f32) b = ⊤ :=
  IdealRules.named_const.ideal_named_scalar κ "big" (φ := .f32) b ⊤ rfl

/-- The running maximum starts from `⊥`. -/
theorem start_apply (r : Fin 256) (c : Fin 128) : k0_pay2 (F := Ideal) (ix2 r c) = (⊥ : EReal) := by
  pointwise [k0_pay2]
  rw [big_eq]
  rfl

/-- A round strikes the point it takes from the row. -/
theorem row_step (e : FVec Ideal S256x16384 .f32) (r : Fin 256) :
    row (k0_pay5 (F := Ideal) e) r = strike (row e r) := by
  funext i
  show k0_pay5 (F := Ideal) e (ix2 r i) = _
  pointwise [k0_pay5]
  rw [big_eq, mask_apply]
  unfold strike
  by_cases h : i = pick (row e r)
  · rw [if_pos h, decide_eq_true h]; rfl
  · rw [if_neg h, decide_eq_false h]; rfl

/-- The mask as a float is one at the point taken and zero elsewhere. -/
theorem hot_apply (b : Bool) :
    FloatOps.sitofp (F := Ideal) .f32 (BitVec.setWidth 32 (BitVec.ofBool b)) = (if b then 1 else 0 : EReal) := by
  cases b
  · show (((0#32 : BitVec 32).toInt : ℝ) : EReal) = _
    simp
  · show (((1#32 : BitVec 32).toInt : ℝ) : EReal) = _
    simp

/-- A round's running maximum meets the feature of the point taken. -/
theorem acc_step (v : Vec Ideal S1x16384x128 .f32) (e : FVec Ideal S256x16384 .f32) (a : FVec Ideal S256x128 .f32)
    (r : Fin 256) (c : Fin 128) :
    k0_pay4 (F := Ideal) v e a (ix2 r c) = max (a (ix2 r c)) (v (ix3 0 (pick (row e r)) c)) := by
  pointwise [k0_pay4]
  simp only [mask_apply, hot_apply, decide_eq_true_eq, ite_mul, one_mul, zero_mul, Finset.sum_ite_eq',
    Finset.sum_ite_eq, Finset.mem_univ, if_true]

/-- What a block stores is its running maximum. -/
theorem out_apply (a : FVec Ideal S256x128 .f32) (r : Fin 256) (c : Fin 128) :
    k0_pay6 (F := Ideal) a (ix3 0 r c) = a (ix2 r c) := by
  pointwise [k0_pay6]

end Cert.Round

end
-- ==== Proof.Block.lean ====
/- What one block of the kernel computes: per row, the greatest feature among the 64 points taken from the row of
   distances. -/
module

public import proofs.«01_k».proof.Proof.Round
public import proofs.«01_k».proof.Proof.Answer

@[expose] public section

noncomputable section

namespace Cert.Block

open Idealize.ShloMosaic Cert.KernelIdeal Cert.KernelIdeal.Gen Cert.Nearest Cert.Distance Cert.Round
  Cert.Answer
open Idealize.ShloMosaic.TcCoe Idealize.SL.Sem

set_option maxRecDepth 16384

/-- One round on the pair of the distances and the running maximum. -/
def round (v : Vec Ideal S1x16384x128 .f32) (s : FVec Ideal S256x16384 .f32 × FVec Ideal S256x128 .f32) :
    FVec Ideal S256x16384 .f32 × FVec Ideal S256x128 .f32 :=
  (k0_pay5 s.1, k0_pay4 v s.1 s.2)

/-- `t` rounds. -/
def rounds (v : Vec Ideal S1x16384x128 .f32) (s : FVec Ideal S256x16384 .f32 × FVec Ideal S256x128 .f32) (t : Nat) :
    FVec Ideal S256x16384 .f32 × FVec Ideal S256x128 .f32 :=
  (round v)^[t] s

/-- One round more. -/
theorem rounds_succ (v : Vec Ideal S1x16384x128 .f32) (s : FVec Ideal S256x16384 .f32 × FVec Ideal S256x128 .f32)
    (t : Nat) : rounds v s (t + 1) = round v (rounds v s t) :=
  Function.iterate_succ_apply' (round v) t s

/-- After `t` rounds a row is struck at the points taken, and the running maximum is the greatest of their features. -/
theorem rounds_apply (v : Vec Ideal S1x16384x128 .f32) (e : FVec Ideal S256x16384 .f32) (r : Fin 256) (t : Nat) :
    row (rounds v (e, k0_pay2) t).1 r = after (row e r) t
      ∧ ∀ c, (rounds v (e, k0_pay2) t).2 (ix2 r c) = greatest (fun k => v (ix3 0 (taken (row e r) k) c)) t := by
  induction t with
  | zero => exact ⟨rfl, fun c => start_apply r c⟩
  | succ t ih =>
    rw [rounds_succ]
    unfold round
    dsimp only
    refine ⟨?_, fun c => ?_⟩
    · rw [row_step (rounds v (e, k0_pay2) t).1 r, ih.1, after]
    · rw [acc_step v (rounds v (e, k0_pay2) t).1 (rounds v (e, k0_pay2) t).2 r c, ih.1, ih.2, greatest, taken]

/-- The loop's 64 trips are 64 rounds. -/
theorem trips_eq (v : Vec Ideal S1x16384x128 .f32) (s : FVec Ideal S256x16384 .f32 × FVec Ideal S256x128 .f32) :
    Scf.fold (n := k0_t1_loop.trips) (fun _ s => (k0_pay5 s.1, k0_pay4 v s.1 s.2)) s = rounds v s 64 := by
  rw [Scf.fold_eq]
  exact (List.foldl_const (round v) s (List.finRange k0_t1_loop.trips)).trans
    (by rw [List.length_finRange]; exact congrArg (rounds v s) (by decide : k0_t1_loop.trips = 64))

/-- What the body leaves in its output block, as the loop's result at the three input blocks. -/
theorem out_eq (c : Dev nD) (i : grid0.Coords) (arg2 : Memref sig .tc .vmem S1x3x16384 .f32) (h2 : arg2.IsWhole)
    (arg3 : Memref sig .tc .vmem S1x256x3 .f32) (h3 : arg3.IsWhole) (arg4 : Memref sig .tc .vmem S1x16384x128 .f32)
    (h4 : arg4.IsWhole) (arg5 : Memref sig .tc .vmem S1x256x128 .f32) (h5 : arg5.IsWhole)
    (x : Vec Ideal S1x3x16384 .f32) (p : Vec Ideal S1x256x3 .f32) (v : Vec Ideal S1x16384x128 .f32) :
    out0_A_3 (F := Ideal) c i arg2 h2 arg3 h3 arg4 h4 arg5 h5 x p v
      = k0_pay6 (rounds v (k0_pay1 x p, k0_pay2) 64).2 := by
  have hz : (![0, 0, 0] : Fin 3 → Nat) = fun _ => 0 := by decide
  unfold out0_A_3
  rw [View.read_writes_eq_canon _ _ _ (cover0_A_3 c i arg2 h2 arg3 h3 arg4 h4 arg5 h5 x p v)]
  unfold kernelRun0_A
  dsimp only
  sl_unfold_words
  simp only [View.readAt_eq_ld, h2.read_unread, h3.read_unread, h4.read_unread]
  rw [View.canon_unit_zero (S := S1x256x128) hz, View.ld_unit_zero (S := S1x16384x128) hz,
    View.ld_unit_zero (S := S1x3x16384) hz, View.ld_unit_zero (S := S1x256x3) hz, trips_eq]

/-- Row `r` of a block's output: the greatest feature among the 64 points nearest to the row's centre. -/
theorem out_row (c : Dev nD) (i : grid0.Coords) (arg2 : Memref sig .tc .vmem S1x3x16384 .f32) (h2 : arg2.IsWhole)
    (arg3 : Memref sig .tc .vmem S1x256x3 .f32) (h3 : arg3.IsWhole) (arg4 : Memref sig .tc .vmem S1x16384x128 .f32)
    (h4 : arg4.IsWhole) (arg5 : Memref sig .tc .vmem S1x256x128 .f32) (h5 : arg5.IsWhole)
    (x : Vec Ideal S1x3x16384 .f32) (p : Vec Ideal S1x256x3 .f32) (v : Vec Ideal S1x16384x128 .f32)
    (r : Fin 256) (j : Fin 128) :
    out0_A_3 (F := Ideal) c i arg2 h2 arg3 h3 arg4 h4 arg5 h5 x p v (ix3 0 r j)
      = greatest (fun k => v (ix3 0
          (taken (fun q : Fin 16384 => sqDist (fun a => x (ix3 0 a q)) (fun a => p (ix3 0 r a))) k) j)) 64 := by
  rw [out_eq, out_apply, (rounds_apply v _ r 64).2 j]
  have : row (k0_pay1 (F := Ideal) x p) r
      = fun q : Fin 16384 => sqDist (fun a => x (ix3 0 a q)) (fun a => p (ix3 0 r a)) :=
    funext fun q => dist_apply x p r q
  rw [this]

end Cert.Block

end
-- ==== Proof.Array.lean ====
/- What the kernel's result array holds after the run: one function of the three argument arrays it reads. -/
module

public import proofs.«01_k».proof.Proof.Block
public import Idealize.ShloMosaic.Lib.Pipeline.ValueKit
public import Idealize.ShloMosaic.Lib.Claim

@[expose] public section

noncomputable section

namespace Cert.Array

open Idealize.ShloMosaic Cert.KernelIdeal Cert.KernelIdeal.Gen Cert.KernelIdeal.Value
open Cert.Nearest Cert.Distance Cert.Round Cert.Block Cert.Answer
open Idealize.ShloMosaic.TcCoe Idealize.SL.Sem

set_option maxRecDepth 16384

variable (m : (ℓ : Loc nD τ sig) → Buf (Elt Ideal) ℓ) (ρ : Dev nD → PrngReg)

/-- Where each window's block sits at a grid point: a cloud's points whole, and a quarter of its centres. -/
theorem idx : ∀ t : Fin cfg0.N, win0_0.index t = ![t.val / 4, 0, 0] ∧ win0_1.index t = ![t.val / 4, t.val % 4, 0]
    ∧ win0_2.index t = ![t.val / 4, 0, 0] ∧ win0_3.index t = ![t.val / 4, t.val % 4, 0] :=
  (by decide +kernel : ∀ t : Fin grid0.N, _)

/-- The cloud a grid point works on. -/
def cloud (t : Fin cfg0.N) : Fin 4 := ⟨t.val / 4, by have : t.val < 16 := t.isLt; omega⟩

/-- The centre in row `r` of a grid point's block. -/
def centre (t : Fin cfg0.N) (r : Fin 256) : Fin 1024 := ⟨t.val % 4 * 256 + r.val, by have := r.isLt; omega⟩

/-- The block of coordinates holds the cloud's points. -/
theorem points_apply (c : Dev nD) (t : Fin cfg0.N) (a : Fin 3) (q : Fin 16384) :
    iblk m c 0 t (ix3 0 a q) = m ((c : Thread nD τ).loc main_arg0) (ix3 (cloud t) q a) := by
  unfold cloud
  show V m c main_v0 (((cfg0.win 0).blk t).view.emb (ix3 0 a q)) = _
  entry_read
  pointwise
  blk_ext [idx t]

/-- The block of centres holds the grid point's quarter. -/
theorem centres_apply (c : Dev nD) (t : Fin cfg0.N) (r : Fin 256) (a : Fin 3) :
    iblk m c 1 t (ix3 0 r a) = m ((c : Thread nD τ).loc main_arg1) (ix3 (cloud t) (centre t r) a) := by
  unfold cloud centre
  blk_ext [iblk, V, idx t]

/-- The block of features holds the cloud's features. -/
theorem features_apply (c : Dev nD) (t : Fin cfg0.N) (q : Fin 16384) (j : Fin 128) :
    iblk m c 2 t (ix3 0 q j) = m ((c : Thread nD τ).loc main_arg2) (ix3 (cloud t) q j) := by
  unfold cloud
  blk_ext [iblk, V, idx t]

/-- The result array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, j, rfl⟩ : ∃ (r : Fin 256) (j : Fin 128), y = ix3 0 r j := ⟨y 1, y 2, by blk_ext⟩
  blk_simp
  rw [after0_3]
  unfold outsAt0
  have he : (win0_3.blk t).view.emb (ix3 0 r j) = (ix3 (cloud t) (centre t r) j : S4x1024x128.Idx) := by
    unfold cloud centre
    blk_ext [idx t]
  rw [he]
  refine (out_row c (grid0.coords t) (ms0_0 t) (hs0_0 t) (ms0_1 t) (hs0_1 t) (ms0_2 t) (hs0_2 t) (ms0_3 t) (hs0_3 t)
    (iblk m c 0 t) (iblk m c 1 t) (iblk m c 2 t) r j).trans ?_
  simp only [features_apply, points_apply, centres_apply]
  rfl

/-- The kernel's run: the result array at its function of the arguments, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.Array

end
-- ==== Proof.Reference.lean ====
/- What the reference's result holds: the same function of the arguments, when every point is selected by the mask and every
   squared distance is below `⊤`. -/
module

public import proofs.«01_k».proof.Proof.Gen.ReferenceIdeal.Read
public import proofs.«01_k».proof.Proof.Answer
public import proofs.«01_k».proof.Proof.Words

@[expose] public section

noncomputable section

namespace Cert.Reference

open Idealize.ShloMosaic Cert.ReferenceIdeal Cert.ReferenceIdeal.Gen Cert.ReferenceIdeal.Read
open Cert.Nearest Cert.Distance Cert.Answer Cert.Words

set_option maxRecDepth 16384

variable (x : Vec Ideal S4x16384x3 .f32) (p : Vec Ideal S4x1024x3 .f32) (v : Vec Ideal S4x16384x128 .f32)
  (w : IVec S4x16384 1)

/-- The reference's distances. -/
theorem dist_apply (b : Fin 4) (q : Fin 16384) (r : Fin 1024) :
    val_main_v12 (F := Ideal) x p (ix3 b q r) = dists x p b r q := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  exact sqDist_comm _ _

/-- The keys the reference sorts by, when the mask selects every point: the distances negated. -/
theorem key_apply (hw : ∀ i, w i = 1#1) (b : Fin 4) (r : Fin 1024) (q : Fin 16384) :
    val_main_v16 (F := Ideal) x p w (ix3 b r q) = -dists x p b r q := by
  rw [← dist_apply]
  pointwise [val_main_v16, val_main_v15, val_main_v14, val_main_call0_v1, val_main_v13]
  rw [hw]
  rfl

/-- An index with its last coordinate replaced. -/
theorem along_last (b : Fin 4) (r : Fin 1024) (k q : Fin 16384) :
    (ix3 b r k : S4x1024x16384.Idx).along 2 q = ix3 b r q := by
  funext a
  match a with
  | ⟨0, _⟩ => rfl
  | ⟨1, _⟩ => rfl
  | ⟨2, _⟩ => rfl

/-- The position written at an index whose last coordinate is replaced is that coordinate. -/
theorem position_word (b : Fin 4) (r : Fin 1024) (k q : Fin 16384) :
    iotaInDim S4x1024x16384 32 2 ((ix3 b r k : S4x1024x16384.Idx).along 2 q) = BitVec.ofNat 32 q.val := by
  rw [along_last]
  rfl

/-- Sorting the positions along with the values leaves, at each place, the position the value there came from. -/
theorem sort_position (lt : EReal → EReal → Bool) (z : Vec Ideal S4x1024x16384 .f32) (b : Fin 4) (r : Fin 1024)
    (k : Fin 16384) :
    iotaInDim S4x1024x16384 32 2 ((ix3 b r k : S4x1024x16384.Idx).along 2
      (sortedFrom (fun i i' => lt (z ((ix3 b r k : S4x1024x16384.Idx).along 2 i))
        (z ((ix3 b r k : S4x1024x16384.Idx).along 2 i'))) k))
      = BitVec.ofNat 32 (sortedFrom (fun i i' => lt (z (ix3 b r i)) (z (ix3 b r i'))) k).val := by
  have h : (fun i i' : Fin 16384 => lt (z ((ix3 b r k : S4x1024x16384.Idx).along 2 i))
      (z ((ix3 b r k : S4x1024x16384.Idx).along 2 i'))) = fun i i' => lt (z (ix3 b r i)) (z (ix3 b r i')) := by
    funext i i'
    rw [along_last, along_last]
  refine (congrArg (fun c => iotaInDim S4x1024x16384 32 2 ((ix3 b r k : S4x1024x16384.Idx).along 2 (sortedFrom c k))) h).trans ?_
  exact position_word b r k _

/-- The positions the reference takes are the points taken one at a time. -/
theorem indices_apply (hw : ∀ i, w i = 1#1) (b : Fin 4) (r : Fin 1024) (hd : ∀ q, dists x p b r q < ⊤) (k : Fin 64) :
    val_main_indices (F := Ideal) x p w (ix3 b r k) = BitVec.ofNat 32 (taken (dists x p b r) k).val := by
  unfold val_main_indices Host.topK
  dsimp only
  rw [extractStridedSlice_apply _ _ _ _ (ix3 b r (k.castLE (by decide)) : S4x1024x16384.Idx) (by
    intro a
    match a with
    | ⟨0, _⟩ => exact (Nat.zero_add _).symm
    | ⟨1, _⟩ => exact (Nat.zero_add _).symm
    | ⟨2, _⟩ => exact (Nat.zero_add _).symm)]
  generalize hz : val_main_v16 (F := Ideal) x p w = z
  have hk : ∀ q, z (ix3 b r q) = -dists x p b r q := fun q => by rw [← hz, key_apply x p w hw]
  have hcmp : (fun i i' : Fin 16384 => FloatOps.cmpfTotal (F := Ideal) (φ := .f32) .gt (z (ix3 b r i)) (z (ix3 b r i')) == 1#1)
      = fun i i' => decide (dists x p b r i < dists x p b r i') := by
    funext i i'
    show (BitVec.ofBool (decide (z (ix3 b r i') < z (ix3 b r i))) == 1#1) = _
    rw [hk, hk, decide_eq_decide.mpr EReal.neg_lt_neg_iff]
    cases decide (dists x p b r i < dists x p b r i') <;> rfl
  rw [← sortedFrom_eq_taken hd (by decide) k, ← hcmp]
  unfold Host.sort2
  rw [dif_pos (by decide)]
  dsimp only
  rw [dif_pos (by decide)]
  exact (sort_position (fun i i' => FloatOps.cmpfTotal (F := Ideal) (φ := .f32) .gt i i' == 1#1) z b r _)

/-- The reference's gather reads the feature row its start index names. -/
theorem gather_apply (s : IVec S4x1024x64x1 32) (b : Fin 4) (r : Fin 1024) (k : Fin 64) (j : Fin 128) (q : Fin 16384)
    (hs : s (ix4 b r k 0) = BitVec.ofNat 32 q.val) :
    Host.gather gather_S4x16384x128_S4x1024x64x1_S4x1024x64x128_3_1_0_0_1_3_11128 v s (ix4 b r k j) = v (ix3 b q j) := by
  set g := gather_S4x16384x128_S4x1024x64x1_S4x1024x64x128_3_1_0_0_1_3_11128 with hg
  have hsi : g.siIdx (ix4 b r k j) ⟨g.startIndexMap.idxOf 1, List.idxOf_lt_length_iff.2 (List.mem_singleton.mpr rfl)⟩
      = ix4 b r k 0 := by
    funext a
    match a with
    | ⟨0, _⟩ => rfl
    | ⟨1, _⟩ => rfl
    | ⟨2, _⟩ => rfl
    | ⟨3, _⟩ => rfl
  unfold Host.gather
  congr 1
  funext a
  apply Fin.ext
  show g.start (ix4 b r k j) s a + g.batchCoord (ix4 b r k j) a + g.offCoord (ix4 b r k j) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have hbatch : (0 : Fin 3) ∈ g.operandBatchingDims := List.mem_singleton.mpr rfl
  have hstart : (1 : Fin 3) ∈ g.startIndexMap := List.mem_singleton.mpr rfl
  have hkept : (2 : Fin 3) ∈ g.sKept := (g.mem_sKept _).mpr ⟨by decide, by decide⟩
  rcases h012 with rfl | rfl | rfl
  · rw [g.start_batching _ _ _ (List.mem_singleton.mpr rfl),
      g.offCoord_eq_zero _ _ fun h => ((g.mem_sKept _).mp h).2 (List.mem_singleton.mpr rfl)]
    unfold GatherDims.batchCoord
    rw [dif_pos hbatch, Nat.add_zero, Nat.zero_add]
    rfl
  · rw [g.batchCoord_eq_zero _ _ (by decide),
      g.offCoord_eq_zero _ _ fun h => ((g.mem_sKept _).mp h).1 (List.mem_singleton.mpr rfl)]
    unfold GatherDims.start
    rw [dif_pos hstart, Nat.add_zero]
    refine (congrArg (fun u => min (s u).toInt.toNat 16383) hsi).trans ?_
    rw [hs, toInt_word]
    exact min_eq_left (Nat.le_of_lt_succ q.isLt)
  · rw [g.batchCoord_eq_zero _ _ (by decide)]
    unfold GatherDims.start GatherDims.offCoord
    rw [dif_neg (by decide), dif_pos hkept, Nat.add_zero, Nat.zero_add]
    rfl

/-- What the reference gathers: the features of the points taken. -/
theorem gathered_apply (hw : ∀ i, w i = 1#1) (b : Fin 4) (r : Fin 1024) (hd : ∀ q, dists x p b r q < ⊤) (k : Fin 64)
    (j : Fin 128) :
    val_main_v23 (F := Ideal) x p v w (ix4 b r k j) = v (ix3 b (taken (dists x p b r) k) j) := by
  refine gather_apply v _ b r k j _ ?_
  have hi := indices_apply x p w hw b r hd k
  pointwise [val_main_v22, val_main_v21, val_main_v20, val_main_v19, val_main_v18, val_main_v17, val_main_c, val_main_c_3]
  rw [hi, show IntOp.cmpi .slt (BitVec.ofNat 32 (taken (dists x p b r) k).val) 0#32 = 0#1 from by
    show BitVec.ofBool (BitVec.slt _ _) = _
    rw [BitVec.slt, toInt_word, show (0#32).toInt = 0 from rfl,
      decide_eq_false (Int.not_lt.mpr (Int.natCast_nonneg _))]
    rfl]
  rfl

/-- The reference's result. -/
theorem result_apply (hw : ∀ i, w i = 1#1) (b : Fin 4) (r : Fin 1024) (hd : ∀ q, dists x p b r q < ⊤) (j : Fin 128) :
    val_main_v24 (F := Ideal) x p v w (ix3 b r j) = result x p v b r j := by
  unfold result
  rw [greatest_eq_fold]
  have hg := fun k => gathered_apply x p v w hw b r hd k j
  pointwise [val_main_v24, val_main_cst_4]
  simp only [hg]
  rw [show Ideal.ofBits .f32 0xFF800000#32 = ⊥ from by simp [Ideal.ofBits, Ideal.ieee]]

end Cert.Reference

end
-- ==== Proof.Equal.lean ====
/- The equation: where the precondition holds, the kernel and the reference both leave `G` of the arguments. -/
module

public import proofs.«01_k».proof.Proof.Given
public import proofs.«01_k».proof.Proof.Array
public import proofs.«01_k».proof.Proof.Reference

@[expose] public section

noncomputable section

namespace Cert.Equal

open Idealize.ShloMosaic Idealize.SL.Sem Cert.Answer Cert.Given

set_option maxRecDepth 16384

/-- The reference's result, where the precondition holds, is `G` of its arguments. -/
theorem reference_eq [Cert.Pre_given.Facts] (x : Vec Ideal Points .f32) (p : Vec Ideal Centres .f32) (v : Vec Ideal Features .f32)
    (w : IVec Cert.Pre_given.S4x16384 1) (hw : (Cert.Pre_given.fn (F := Ideal) x p v w).1 = fun _ => 1#1)
    (hx : (Cert.Pre_given.fn (F := Ideal) x p v w).2.1 = fun _ => 1#1)
    (hp : (Cert.Pre_given.fn (F := Ideal) x p v w).2.2 = fun _ => 1#1) :
    Cert.ReferenceIdeal.Read.val_main_v24 (F := Ideal) x p v w = G x p v := by
  funext i
  have hi : i = ix3 (i 0) (i 1) (i 2) := by blk_ext
  rw [hi]
  exact Cert.Reference.result_apply x p v w (fun j => congrFun hw j) (i 0) (i 1)
    (dists_lt_top x p v w hx hp (i 0) (i 1)) (i 2)

/-- From memories that agree on the arguments, both programs run, end with equal results and leave their arguments
    unchanged. -/
theorem algebraic [Cert.Pre_given.Facts] : Cert.algebraic_KernelIdeal_ReferenceIdeal_pre_given := by
  intro m g m' g' hpre hagree
  refine ⟨_, Cert.Array.run m g, (θ_run Cert.ReferenceIdeal.defs _ _).mono (fun r h c => ?_)
    (Cert.ReferenceIdeal.Value.run m' g')⟩
  refine ⟨((h c).1.trans (Cert.ReferenceIdeal.Read.val_main_v24_eq m' c)).trans ?_, (h c).2⟩
  obtain ⟨h0, h1, h2, h3⟩ := hagree c
  obtain ⟨hw, hx, hp⟩ := hpre c
  rw [h0, h1, h2, h3]
  exact reference_eq _ _ _ _ hw hx hp

end Cert.Equal

end
-- ==== Proof.lean ====
/- The claims of the nearest-neighbour max-pool kernel, assembled. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs and ends with its arguments unchanged. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- The three programs run and end with their arguments unchanged, the idealized kernel is the kernel with its mask
    constant named, and the idealized kernel's result is the reference's where the precondition holds. -/
theorem claim : Cert.Claim :=
  ⟨Cert.Kernel.Gen.facts, Cert.KernelIdeal.Gen.facts, Cert.ReferenceIdeal.Gen.facts, Cert.Given.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "big" .f32 0x7F61B1E6#32 ⊤ rfl,
    @Cert.Equal.algebraic Cert.Given.facts⟩

end Cert.Proof

end
